-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x2048 : Shape := ⟨3, ![2, 2048, 2048]⟩
abbrev S2048x2048 : Shape := ⟨2, ![2048, 2048]⟩
abbrev S4096x2048 : Shape := ⟨2, ![4096, 2048]⟩
abbrev S_ : Shape := ⟨0, ![]⟩
abbrev S256x2048 : Shape := ⟨2, ![256, 2048]⟩
abbrev S16 : Shape := ⟨1, ![16]⟩
abbrev S16x1 : Shape := ⟨2, ![16, 1]⟩
abbrev S1024 : Shape := ⟨1, ![1024]⟩
abbrev S1x1024 : Shape := ⟨2, ![1, 1024]⟩
abbrev S16x1024 : Shape := ⟨2, ![16, 1024]⟩
abbrev S2x2048x16x2048 : Shape := ⟨4, ![2, 2048, 16, 2048]⟩
abbrev S1x256x1024 : Shape := ⟨3, ![1, 256, 1024]⟩
abbrev S1x2048x1024 : Shape := ⟨3, ![1, 2048, 1024]⟩
abbrev S1x256x8x2048 : Shape := ⟨4, ![1, 256, 8, 2048]⟩
abbrev S256x1024 : Shape := ⟨2, ![256, 1024]⟩
abbrev S2048x1024 : Shape := ⟨2, ![2048, 1024]⟩
abbrev S256x1x1024 : Shape := ⟨3, ![256, 1, 1024]⟩
abbrev S256x8x1024 : Shape := ⟨3, ![256, 8, 1024]⟩
abbrev S256x8x2048 : Shape := ⟨3, ![256, 8, 2048]⟩

abbrev nBuf : Space → Nat
  | .hbm => 65
  | .vmem => 17
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S4096x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S2048x2048, .bf16⟩
  | .hbm, ⟨10, _⟩ => ⟨S4096x2048, .bf16⟩
  | .hbm, ⟨11, _⟩ => ⟨S4096x2048, .bf16⟩
  | .hbm, ⟨12, _⟩ => ⟨S4096x2048, .f32⟩
  | .hbm, ⟨13, _⟩ => ⟨S2x2048x2048, .bf16⟩
  | .hbm, ⟨14, _⟩ => ⟨S2x2048x2048, .bf16⟩
  | .hbm, ⟨15, _⟩ => ⟨S16, .i32⟩
  | .hbm, ⟨16, _⟩ => ⟨S16x1, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S16x1, .i32⟩
  | .hbm, ⟨24, _⟩ => ⟨S16x1, .i32⟩
  | .hbm, ⟨25, _⟩ => ⟨S_, .i32⟩
  | .hbm, ⟨26, _⟩ => ⟨S16x1, .i32⟩
  | .hbm, ⟨27, _⟩ => ⟨S16x1, .i1⟩
  | .hbm, ⟨28, _⟩ => ⟨S_, .i32⟩
  | .hbm, ⟨29, _⟩ => ⟨S16x1, .i32⟩
  | .hbm, ⟨30, _⟩ => ⟨S16x1, .i1⟩
  | .hbm, ⟨31, _⟩ => ⟨S_, .i32⟩
  | .hbm, ⟨32, _⟩ => ⟨S_, .i1⟩
  | .hbm, ⟨33, _⟩ => ⟨S16x1, .i1⟩
  | .hbm, ⟨34, _⟩ => ⟨S16x1, .i1⟩
  | .hbm, ⟨35, _⟩ => ⟨S16x1, .i1⟩
  | .hbm, ⟨36, _⟩ => ⟨S16x1, .i32⟩
  | .hbm, ⟨37, _⟩ => ⟨S16x1, .i32⟩
  | .hbm, ⟨38, _⟩ => ⟨S16x1, .i32⟩
  | .hbm, ⟨39, _⟩ => ⟨S1024, .i32⟩
  | .hbm, ⟨40, _⟩ => ⟨S1x1024, .i32⟩
  | .hbm, ⟨41, _⟩ => ⟨S_, .i32⟩
  | .hbm, ⟨42, _⟩ => ⟨S_, .i32⟩
  | .hbm, ⟨43, _⟩ => ⟨S1x1024, .i32⟩
  | .hbm, ⟨44, _⟩ => ⟨S1x1024, .i32⟩
  | .hbm, ⟨45, _⟩ => ⟨S1x1024, .i32⟩
  | .hbm, ⟨46, _⟩ => ⟨S_, .i32⟩
  | .hbm, ⟨47, _⟩ => ⟨S1x1024, .i32⟩
  | .hbm, ⟨48, _⟩ => ⟨S1x1024, .i1⟩
  | .hbm, ⟨49, _⟩ => ⟨S1x1024, .i32⟩
  | .hbm, ⟨50, _⟩ => ⟨S1x1024, .i32⟩
  | .hbm, ⟨51, _⟩ => ⟨S_, .i32⟩
  | .hbm, ⟨52, _⟩ => ⟨S1x1024, .i32⟩
  | .hbm, ⟨53, _⟩ => ⟨S1x1024, .i1⟩
  | .hbm, ⟨54, _⟩ => ⟨S1x1024, .i1⟩
  | .hbm, ⟨55, _⟩ => ⟨S_, .i32⟩
  | .hbm, ⟨56, _⟩ => ⟨S1x1024, .i32⟩
  | .hbm, ⟨57, _⟩ => ⟨S1x1024, .i32⟩
  | .hbm, ⟨58, _⟩ => ⟨S1x1024, .i32⟩
  | .hbm, ⟨59, _⟩ => ⟨S16x1024, .i32⟩
  | .hbm, ⟨60, _⟩ => ⟨S16x1024, .i32⟩
  | .hbm, ⟨61, _⟩ => ⟨S16x1024, .i1⟩
  | .hbm, ⟨62, _⟩ => ⟨S16x1024, .bf16⟩
  | .hbm, ⟨63, _⟩ => ⟨S2x2048x16x2048, .f32⟩
  | .hbm, ⟨64, _⟩ => ⟨S2x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S16x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x256x8x2048, .f32⟩
  | .local _ .vmem, ⟨16, _⟩ => ⟨S1x256x8x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![2, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage1_0 : Fin 1 → Memref sig .tc .vmem S16x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x8x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]
-- ==== ReferenceIdeal.lean ====
abbrev S2x2048x2048 : Shape := ⟨3, ![2, 2048, 2048]⟩
abbrev S2048x2048 : Shape := ⟨2, ![2048, 2048]⟩
abbrev S_ : Shape := ⟨0, ![]⟩
abbrev S2x2048x16x128 : Shape := ⟨4, ![2, 2048, 16, 128]⟩
abbrev S2x16x2048x2048 : Shape := ⟨4, ![2, 16, 2048, 2048]⟩
abbrev S2x2048x16x2048 : Shape := ⟨4, ![2, 2048, 16, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2x2048x2048, .f32⟩
  | .hbm, ⟨6, _⟩ => ⟨S_, .f32⟩
  | .hbm, ⟨7, _⟩ => ⟨S2x2048x2048, .f32⟩
  | .hbm, ⟨8, _⟩ => ⟨S2x2048x2048, .f32⟩
  | .hbm, ⟨9, _⟩ => ⟨S2x2048x16x128, .f32⟩
  | .hbm, ⟨10, _⟩ => ⟨S2048x2048, .f32⟩
  | .hbm, ⟨11, _⟩ => ⟨S2x2048x2048, .f32⟩
  | .hbm, ⟨12, _⟩ => ⟨S2x2048x16x128, .f32⟩
  | .hbm, ⟨13, _⟩ => ⟨S2048x2048, .f32⟩
  | .hbm, ⟨14, _⟩ => ⟨S2x2048x2048, .f32⟩
  | .hbm, ⟨15, _⟩ => ⟨S2x2048x16x128, .f32⟩
  | .hbm, ⟨16, _⟩ => ⟨S2x16x2048x2048, .f32⟩
  | .hbm, ⟨17, _⟩ => ⟨S2x2048x16x2048, .f32⟩
  | .hbm, ⟨18, _⟩ => ⟨S_, .f32⟩
  | .hbm, ⟨19, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelRun.lean ====
/-
  The run of the kernel program, read at its results. The generated frame says that every run ends with the
  argument arrays unchanged; here the same launch is read at the two result buffers as well: each ends at the contents
  that the segment-by-segment fold of the program gives it (`W9`), which the other modules of this proof compute.
-/
module

public import proofs.«01_k».proof.Proof.Gen.KernelIdeal.Frame

@[expose] public section

set_option maxRecDepth 16384

noncomputable section

namespace Cert.KernelIdeal.Scores

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every run of the kernel program ends, and on every device each unscoped buffer then holds what the fold of the
    program's segments leaves in it. -/
theorem run_fold : θ_run defs (onTc (τ := τ) (main (F := F))) ⟨m, fun _ => 0, ρ⟩ fun r =>
      ∀ c : Dev nD, ∀ b ∈ Pipeline.ucRefs τ sig, r.2.mem (((c : Thread nD τ)).1, b) = W9 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h _ => h)

/-- Every run of the kernel program ends with its two results at the fold's contents and its four arguments as they
    were launched. -/
theorem run : θ_run defs (onTc (τ := τ) (main (F := F))) ⟨m, fun _ => 0, ρ⟩ fun r => ∀ c : Dev nD,
      r.2.mem ((c.tc : Thread nD τ).loc main_v19) = W9 m ρ c (Proc.devRef .tc main_v19)
      ∧ r.2.mem ((c.tc : Thread nD τ).loc main_v18) = W9 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨h c _ (mem_uc main_v19 (by decide)), h c _ (mem_uc main_v18 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)
    (run_fold m ρ)

end Cert.KernelIdeal.Scores

end
-- ==== Proof.Projection.lean ====
/-
  The first kernel call, read at its outputs. Its sixteen grid points each take 256 rows of the input and both whole
  weight matrices; here the three output arrays it leaves are stated index by index: two products of the input with a
  transposed weight matrix, and an array of zeros.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Scores

open Idealize.ShloMosaic Idealize.ShloMosaic.TcCoe Idealize.ShloMosaic.Pipeline
open Idealize.SL.Sem
open Cert.KernelIdeal Cert.KernelIdeal.Gen

-- the buffer contents when the first call is entered
variable (V : (c : Dev nD) → (b : Ref sig .tc) → Buf (Elt Ideal) ((c : Thread nD τ).loc b))

/-- The product of a 4096 × 2048 array with the transpose of a 2048 × 2048 array, index by index. -/
def prodT (x : S4096x2048.Idx → EReal) (w : S2048x2048.Idx → EReal) : S4096x2048.Idx → EReal := fun j =>
  ∑ i : Fin 2048, x (ix2 (j 0) i) * w (ix2 (j 1) i)

/-- Where each window of the call stands at grid point `t`: the input and the three outputs at their `t`-th block of
    rows, the two weights at their one block. -/
theorem idx0 : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] := by
  decide +kernel

/-- The first output of the call: the input times the transpose of the first weight operand. -/
theorem final_q (c : Dev nD) : (dat0 V c).arrAt 3 cfg0.N = prodT (V c main_v0) (V c main_v3) := by
  refine (dat0 V c).arrAt_eq_of_covers 3 _ (by decide +kernel) fun t hf y => ?_
  blk_simp
  rw [after0_3]
  frame_out
  unfold k0_pay2 k0_pay1 prodT
  pointwise
  refine Fin.sum_fin_congr fun i => ?_
  blk_point [iblk0, idx0 t]

/-- The second output of the call: the input times the transpose of the second weight operand. -/
theorem final_k (c : Dev nD) : (dat0 V c).arrAt 4 cfg0.N = prodT (V c main_v0) (V c main_v4) := by
  refine (dat0 V c).arrAt_eq_of_covers 4 _ (by decide +kernel) fun t hf y => ?_
  blk_simp
  rw [after0_4]
  frame_out
  unfold k0_pay3 k0_pay1 prodT
  pointwise
  refine Fin.sum_fin_congr fun i => ?_
  blk_point [iblk0, idx0 t]

/-- The third output of the call: zeros. -/
theorem final_z (c : Dev nD) : (dat0 V c).arrAt 5 cfg0.N = (fun _ => (0 : EReal)) := by
  refine (dat0 V c).arrAt_eq_of_covers 5 _ (by decide +kernel) fun t hf y => ?_
  blk_simp
  rw [after0_5]
  frame_out
  unfold k0_pay4
  pointwise

end Cert.KernelIdeal.Scores

end
-- ==== Proof.Host.lean ====
/-
  The host operations of the kernel program, read at the buffers the two calls take and at the results: the reshaped
  input and the scaled weights before the first call, the reshaped projections and the block-diagonal mask before the
  second, the reshaped zeros at the end.
-/
module

public import proofs.«01_k».proof.Proof.Projection
public import Idealize.ShloMosaic.Lib.StableHlo.ReadAt

@[expose] public section

set_option maxRecDepth 16384

noncomputable section

namespace Cert.KernelIdeal.Scores

open Idealize.ShloMosaic Idealize.ShloMosaic.TcCoe Idealize.ShloMosaic.Pipeline
open Idealize.SL.Sem
open Cert.KernelIdeal Cert.KernelIdeal.Gen

variable (m : (ℓ : Loc nD τ sig) → Buf (Elt Ideal) ℓ) (ρ : Dev nD → PrngReg)

/-- The input array. -/
abbrev xin (c : Dev nD) : S2x2048x2048.Idx → EReal := m ((c.tc : Thread nD τ).loc main_arg0)
/-- The query weights. -/
abbrev wq (c : Dev nD) : S2048x2048.Idx → EReal := m ((c.tc : Thread nD τ).loc main_arg1)
/-- The key weights. -/
abbrev wk (c : Dev nD) : S2048x2048.Idx → EReal := m ((c.tc : Thread nD τ).loc main_arg2)

/-- The scale, as the number its literal reads as. -/
abbrev scale : EReal := (Scalar.ofBits (F := Ideal) .f32 0x3DB504F3#32 : Ideal .f32)

/-- The word the mask compares a row by: the row's number modulo eight, as the program's truncating remainder and the
    correction behind it compute it. -/
theorem rowWord : ∀ j : Fin 16,
    Scalar.select
      (IntOp.andi
        (IntOp.cmpi .ne
          (IntOp.cmpi .slt
            (IntOp.remsi .host (BitVec.ofNat 32 j.val)
              (Scalar.select (IntOp.cmpi .eq (id 8#32) 0#32) (1#32) (id 8#32))) 0#32)
          (IntOp.cmpi .slt (Scalar.select (IntOp.cmpi .eq (id 8#32) 0#32) (1#32) (id 8#32)) 0#32))
        (IntOp.cmpi .ne
          (IntOp.remsi .host (BitVec.ofNat 32 j.val)
            (Scalar.select (IntOp.cmpi .eq (id 8#32) 0#32) (1#32) (id 8#32))) 0#32))
      (IntOp.addi
        (IntOp.remsi .host (BitVec.ofNat 32 j.val)
          (Scalar.select (IntOp.cmpi .eq (id 8#32) 0#32) (1#32) (id 8#32)))
        (Scalar.select (IntOp.cmpi .eq (id 8#32) 0#32) (1#32) (id 8#32)))
      (IntOp.remsi .host (BitVec.ofNat 32 j.val)
        (Scalar.select (IntOp.cmpi .eq (id 8#32) 0#32) (1#32) (id 8#32)))
      = BitVec.ofNat 32 (j.val % 8) := by
  decide +kernel

/-- The word the mask compares a column by: the column's number divided by 128, as the program's truncating quotient and
    the correction behind it compute it. -/
theorem colWord : ∀ n : Fin 1024,
    Scalar.select
      (IntOp.andi
        (IntOp.cmpi .ne
          (if BitVec.ofNat 32 n.val = 0 then (0 : BitVec 32) else if (BitVec.ofNat 32 n.val).msb = true then -1 else 1)
          (if id 128#32 = 0 then (0 : BitVec 32) else if BitVec.msb (id 128#32) = true then -1 else 1))
        (IntOp.cmpi .ne (IntOp.remsi .host (BitVec.ofNat 32 n.val) (id 128#32)) 0#32))
      (IntOp.subi (IntOp.divsi .host (BitVec.ofNat 32 n.val) (id 128#32)) 1#32)
      (IntOp.divsi .host (BitVec.ofNat 32 n.val) (id 128#32))
      = BitVec.ofNat 32 (n.val / 128) := by
  decide +kernel

/-- One entry of the mask: one where the row modulo eight is the column's group of 128, zero elsewhere. -/
theorem maskBit (j : Fin 16) (n : Fin 1024) :
    (FloatOps.uitofp (F := Ideal) .bf16 (IntOp.cmpi .eq (BitVec.ofNat 32 (j.val % 8)) (BitVec.ofNat 32 (n.val / 128))) : EReal)
      = if j.val % 8 = n.val / 128 then (1 : EReal) else (0 : EReal) := by
  have hj := j.isLt
  have hn := n.isLt
  by_cases h : j.val % 8 = n.val / 128
  · rw [if_pos h, h, IntOp.cmpi_eq.mpr rfl]
    show (((1#1 : BitVec 1).toNat : ℝ) : EReal) = 1
    simp
  · rw [if_neg h, WordCmp.cmpi_eq_ofNat (by omega) (by omega), decide_eq_false h]
    show (((0#1 : BitVec 1).toNat : ℝ) : EReal) = 0
    simp

/-- The input's rows, as the first call takes them: row `2048 b + s` is row `s` of batch `b`. -/
theorem W1_v0 (c : Dev nD) (b : Fin 2) (s i : Fin 2048) (r : Fin 4096) (hr : r.val = b.val * 2048 + s.val) :
    (W1 m ρ c (Proc.devRef .tc main_v0) : S4096x2048.Idx → EReal) (ix2 r i)
      = xin m c (ix3 b s i) := by
  unfold W1 hostOps0 W0
  after_reads_at
  rw [show (⟨r.val / 2048, by omega⟩ : Fin 2) = b from Fin.ext (by dsimp only; omega),
    show (⟨r.val % 2048, by omega⟩ : Fin 2048) = s from Fin.ext (by dsimp only; omega)]

/-- The first weight operand of the first call: the query weights, each times the scale. -/
theorem W1_v3 (c : Dev nD) (n i : Fin 2048) :
    @Eq EReal ((W1 m ρ c (Proc.devRef .tc main_v3) : S2048x2048.Idx → EReal) (ix2 n i))
      (wq m c (ix2 n i) * scale) := by
  unfold W1 hostOps0 W0
  after_reads_at

/-- The second weight operand of the first call: the key weights. -/
theorem W1_v4 (c : Dev nD) :
    (W1 m ρ c (Proc.devRef .tc main_v4) : S2048x2048.Idx → EReal)
      = wk m c := by
  funext j
  unfold W1 hostOps0 W0
  after_reads_at

/-- The mask operand of the second call, entry by entry. -/
theorem W7_v17 (c : Dev nD) (j : Fin 16) (n : Fin 1024) :
    @Eq EReal ((W7 m ρ c (Proc.devRef .tc main_v17) : S16x1024.Idx → EReal) (ix2 j n))
      (if j.val % 8 = n.val / 128 then (1 : EReal) else (0 : EReal)) := by
  unfold W7 hostOps1_4
  after_reads_at
  exact ((congrArg₂ (fun a b => FloatOps.uitofp (F := Ideal) .bf16 (IntOp.cmpi .eq a b)) (rowWord j) (colWord n))).trans
    (maskBit j n)

/-- The query operand of the second call is the first call's first output under the batch axis. -/
theorem W7_v6 (c : Dev nD) (b : Fin 2) (s n : Fin 2048) (r : Fin 4096) (hr : r.val = b.val * 2048 + s.val) :
    (W7 m ρ c (Proc.devRef .tc main_v6) : S2x2048x2048.Idx → EReal) (ix3 b s n)
      = (W2 m ρ c (Proc.devRef .tc main_v5_0) : S4096x2048.Idx → EReal) (ix2 r n) := by
  rw [W7_of m ρ c main_v6 (by decide), W6_of m ρ c main_v6 (by decide), W5_of m ρ c main_v6 (by decide),
    W4_of m ρ c main_v6 (by decide)]
  unfold W3 hostOps1
  after_reads_at
  rw [show (⟨b.val * 2048 + s.val, by omega⟩ : Fin 4096) = r from Fin.ext hr.symm]

/-- The key operand of the second call is the first call's second output under the batch axis. -/
theorem W7_v7 (c : Dev nD) (b : Fin 2) (s n : Fin 2048) (r : Fin 4096) (hr : r.val = b.val * 2048 + s.val) :
    (W7 m ρ c (Proc.devRef .tc main_v7) : S2x2048x2048.Idx → EReal) (ix3 b s n)
      = (W2 m ρ c (Proc.devRef .tc main_v5_1) : S4096x2048.Idx → EReal) (ix2 r n) := by
  rw [W7_of m ρ c main_v7 (by decide), W6_of m ρ c main_v7 (by decide), W5_of m ρ c main_v7 (by decide),
    W4_of m ρ c main_v7 (by decide)]
  unfold W3 hostOps1
  after_reads_at
  rw [show (⟨b.val * 2048 + s.val, by omega⟩ : Fin 4096) = r from Fin.ext hr.symm]

/-- The queries, scaled through the weights: entry `n` of position `s` in batch `b`. -/
def query (c : Dev nD) (b : Fin 2) (s n : Fin 2048) : EReal :=
  ∑ i : Fin 2048, xin m c (ix3 b s i)
    * (wq m c (ix2 n i) * scale)

/-- The keys: entry `n` of position `s` in batch `b`. -/
def key (c : Dev nD) (b : Fin 2) (s n : Fin 2048) : EReal :=
  ∑ i : Fin 2048, xin m c (ix3 b s i)
    * wk m c (ix2 n i)

/-- What the second call reads as its queries. -/
theorem entry_query (c : Dev nD) (b : Fin 2) (s n : Fin 2048) :
    (W7 m ρ c (Proc.devRef .tc main_v6) : S2x2048x2048.Idx → EReal) (ix3 b s n) = query m c b s n := by
  have hr : b.val * 2048 + s.val < 4096 := by omega
  rw [W7_v6 m ρ c b s n ⟨_, hr⟩ rfl,
    show W2 m ρ c (Proc.devRef .tc main_v5_0) = _ from (W2_arr m ρ c 3).trans (final_q (V1 m ρ) c)]
  unfold prodT query
  refine Fin.sum_fin_congr fun i => ?_
  exact congrArg₂ (· * ·) (W1_v0 m ρ c b s i ⟨_, hr⟩ rfl) (W1_v3 m ρ c n i)

/-- What the second call reads as its keys. -/
theorem entry_key (c : Dev nD) (b : Fin 2) (s n : Fin 2048) :
    (W7 m ρ c (Proc.devRef .tc main_v7) : S2x2048x2048.Idx → EReal) (ix3 b s n) = key m c b s n := by
  have hr : b.val * 2048 + s.val < 4096 := by omega
  rw [W7_v7 m ρ c b s n ⟨_, hr⟩ rfl,
    show W2 m ρ c (Proc.devRef .tc main_v5_1) = _ from (W2_arr m ρ c 4).trans (final_k (V1 m ρ) c)]
  unfold prodT key
  refine Fin.sum_fin_congr fun i => ?_
  exact congrArg₂ (· * ·) (W1_v0 m ρ c b s i ⟨_, hr⟩ rfl) (congrFun (W1_v4 m ρ c) (ix2 n i))

/-- The first result of the program: zeros. -/
theorem result_zeros (c : Dev nD) :
    (W9 m ρ c (Proc.devRef .tc main_v19) : S2x2048x2048.Idx → EReal) = fun _ => (0 : EReal) := by
  have h : W8 m ρ c (Proc.devRef .tc main_v5_2) = fun _ => (0 : EReal) := by
    rw [W8_of m ρ c main_v5_2 (by decide), W7_of m ρ c main_v5_2 (by decide), W6_of m ρ c main_v5_2 (by decide),
      W5_of m ρ c main_v5_2 (by decide), W4_of m ρ c main_v5_2 (by decide), W3_of m ρ c main_v5_2 (by decide)]
    exact (W2_arr m ρ c 5).trans (final_z (V1 m ρ) c)
  funext j
  unfold W9 hostOps2
  after_reads_at
  rw [h]

end Cert.KernelIdeal.Scores

end
-- ==== Proof.ScoresCall.lean ====
/-
  The second kernel call, read at its output. Each grid point takes 256 query rows and all key rows of one batch, in one
  group of eight heads; it repeats every query row eight times, multiplies the copies by a tiled mask that keeps one head's
  columns in each, and takes one product with the keys. Here the block a grid point stores and then the whole output
  array are stated index by index, for any mask.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Scores

open Idealize.ShloMosaic Idealize.ShloMosaic.TcCoe Idealize.ShloMosaic.Pipeline
open Idealize.SL.Sem
open Cert.KernelIdeal Cert.KernelIdeal.Gen

/-- One entry of the block that a grid point stores: at query row `r`, head `h` of the group and key `k`, the sum over the
    group's 1024 columns of query times mask times key. The mask's row is that of the repeated query row modulo 16. -/
theorem pay_apply (v0 : Vec Ideal S1x256x1024 .bf16) (v2 : Vec Ideal S1x2048x1024 .bf16) (v7 : Vec Ideal S16x1024 .bf16)
    (u : Fin 1) (r : Fin 256) (h : Fin 8) (k : Fin 2048) :
    (k1_pay1 v0 v2 v7 : S1x256x8x2048.Idx → EReal) (ix4 u r h k)
     = ∑ n : Fin 1024, (v0 (ix3 0 r n) * v7 (ix2 ⟨(r.val * 8 + h.val) % 16, by omega⟩ n) : EReal) * v2 (ix3 0 k n) := by
  unfold k1_pay1
  generalize hM : concatenate S2048x1024 0 _ _ = M
  have hcat : ∀ (a : Fin 2048) (n : Fin 1024), M (ix2 a n) = v7 (ix2 ⟨a.val % 16, by omega⟩ n) := fun a n => by
    rw [← hM]
    refine (concatenate_ofFn_apply (t := S2048x1024) (s₁ := S16x1024) 0 (fun _ : Fin 128 => shapeCast S16x1024 v7 shapeCasts_S16x1024_S16x1024) _ (by decide) 16 (by decide)
      (ix2 a n) ⟨a.val / 16, by omega⟩ rfl (ix2 ⟨a.val % 16, by omega⟩ n) rfl ?_).trans ?_
    · intro b hb
      match b with
      | ⟨0, _⟩ => exact absurd rfl hb
      | ⟨1, _⟩ => rfl
    · pointwise
  clear hM
  pointwise
  refine Fin.sum_fin_congr fun n => ?_
  rw [hcat]

-- the buffer contents when the second call is entered
variable (V : (c : Dev nD) → (b : Ref sig .tc) → Buf (Elt Ideal) ((c : Thread nD τ).loc b))

/-- The masked product the call computes, index by index: at batch, query, head and key, the sum over the 1024 columns of
    the head's group of eight heads of query times mask times key. -/
def maskedProd (mk : S16x1024.Idx → EReal) (q k : S2x2048x2048.Idx → EReal) : S2x2048x16x2048.Idx → EReal := fun j =>
  ∑ n : Fin 1024,
    (q (ix3 (j 0) (j 1) ⟨(j 2).val / 8 * 1024 + n.val, by have : (j 2).val < 16 := (j 2).isLt; omega⟩)
      * mk (ix2 ⟨((j 1).val * 8 + (j 2).val % 8) % 16, by omega⟩ n))
    * k (ix3 (j 0) (j 3) ⟨(j 2).val / 8 * 1024 + n.val, by have : (j 2).val < 16 := (j 2).isLt; omega⟩)

/-- Where each window of the call stands at grid point `t`: the points run over batch, head group and block of 256
    queries, the last fastest. -/
theorem idx1 : ∀ t : Fin grid1.N, win1_0.index t = ![0, 0] ∧ win1_1.index t = ![t.val / 16, t.val % 8, t.val / 8 % 2]
    ∧ win1_2.index t = ![t.val / 16, 0, t.val / 8 % 2]
    ∧ win1_3.index t = ![t.val / 16, t.val % 8, t.val / 8 % 2, 0] := by
  decide +kernel

/-- The output of the call: the masked product of its operands. -/
theorem final_s (c : Dev nD) :
    (dat1 V c).arrAt 3 cfg1.N = maskedProd (V c main_v17) (V c main_v6) (V c main_v7) := by
  refine (dat1 V c).arrAt_eq_of_covers 3 _ (by decide +kernel) fun t hf y => ?_
  blk_simp
  rw [after1_3]
  frame_out
  unfold maskedProd
  idx_vars y
  refine (pay_apply _ _ _ y0 y1 y2 y3).trans ?_
  refine Fin.sum_fin_congr fun n => ?_
  blk_point [iblk1, idx1 t]

end Cert.KernelIdeal.Scores

end
-- ==== Proof.Sums.lean ====
/-
  The two facts about sums of extended reals that the kernel's rewriting of the function rests on: a block mask inside a
  long sum leaves one block of it, and a finite nonnegative scale may be moved into a sum.
-/
module

public import Idealize.ShloMosaic.Init
public import Idealize.ShloMosaic.Lib.IdealHost
public import Idealize.ShloMosaic.Lib.Pipeline.ValueKit

@[expose] public section

noncomputable section

namespace Cert.Scores

open Idealize.ShloMosaic

/-- A sum over 1024 columns whose terms carry a mask that is one on the columns of group `g` and zero elsewhere is the
    sum over the 128 columns of that group. -/
theorem sum_mask (g : Fin 8) (q k : Fin 1024 → EReal) :
    ∑ n : Fin 1024, q n * (if g.val = n.val / 128 then (1 : EReal) else 0) * k n
      = ∑ d : Fin 128, q ⟨g.val * 128 + d.val, by omega⟩ * k ⟨g.val * 128 + d.val, by omega⟩ := by
  rw [← Fin.sum_mul_add_fin (L := 1024) 8 128 (fun n : Fin 1024 => q n * (if g.val = n.val / 128 then (1 : EReal) else 0) * k n) rfl]
  rw [Finset.sum_eq_single g]
  · refine Finset.sum_congr rfl fun d _ => ?_
    have hd : g.val = (g.val * 128 + d.val) / 128 := by omega
    rw [if_pos hd, mul_one]
  · intro s _ hs
    refine Finset.sum_eq_zero fun d _ => ?_
    have hd : ¬ g.val = (s.val * 128 + d.val) / 128 := fun e => hs (Fin.ext (by omega))
    rw [if_neg hd, mul_zero, zero_mul]
  · exact fun h => absurd (Finset.mem_univ g) h

/-- A finite nonnegative factor distributes over a finite sum of extended reals, whatever the terms are. -/
theorem sum_mul_scale {ι : Type} (s : Finset ι) (f : ι → EReal) (a : EReal) (h0 : 0 ≤ a) (ht : a ≠ ⊤) :
    (∑ i ∈ s, f i) * a = ∑ i ∈ s, f i * a := by
  classical
  induction s using Finset.induction_on with
  | empty => simp
  | insert i s hi ih =>
    rw [Finset.sum_insert hi, Finset.sum_insert hi, EReal.right_distrib_of_nonneg_of_ne_top h0 ht, ih]

/-- The scale's literal reads as a nonnegative number that is not infinite. -/
theorem scale_fin : (0 : EReal) ≤ Ideal.ofBits .f32 0x3DB504F3#32 ∧ Ideal.ofBits .f32 0x3DB504F3#32 ≠ ⊤ := by
  have h : Ideal.ofBits .f32 0x3DB504F3#32 = ((11863283 / 134217728 : ℝ) : EReal) := by
    simp [Ideal.ofBits, Ideal.ieee, -EReal.coe_mul]; norm_num
  rw [h]
  exact ⟨EReal.coe_nonneg.mpr (by norm_num), EReal.coe_ne_top _⟩

end Cert.Scores

end
-- ==== Proof.Reference.lean ====
/-
  The reference program's two results as terms over its arguments: zeros, and scores read index by index.
-/
module

public import proofs.«01_k».proof.Proof.Gen.ReferenceIdeal.Run
public import Idealize.ShloMosaic.Lib.Pointwise

@[expose] public section

set_option maxRecDepth 16384

noncomputable section

namespace Cert.ReferenceIdeal.Scores

open Idealize.ShloMosaic Idealize.ShloMosaic.TcCoe Idealize.SL.Sem
open Cert.ReferenceIdeal Cert.ReferenceIdeal.Gen

/-- The reference's first result, a broadcast constant, is zero everywhere. -/
theorem zeros_eq : broadcastInDim S2x2048x2048 ![] bcast_S_S2x2048x2048 (constant (F := Ideal) S_ .f32 0x00000000#32)
    = fun _ => (0 : EReal) := by
  funext j
  pointwise

/-- The reference's projection: the input times the transpose of a weight matrix. -/
def proj (x : FVec Ideal S2x2048x2048 .f32) (w : FVec Ideal S2048x2048 .f32) : FVec Ideal S2x2048x2048 .f32 :=
  Host.dotGeneral dot_S2x2048x2048_S2048x2048_S2x2048x2048_2_0_01_1_n_n none x
    (transpose S2048x2048 [1, 0] w transposes_S2048x2048_S2048x2048_1_0)

/-- The reference's scores as one term over its input and its query and key weights. -/
def scores (x : FVec Ideal S2x2048x2048 .f32) (wq wk : FVec Ideal S2048x2048 .f32) : FVec Ideal S2x2048x16x2048 .f32 :=
  transpose S2x2048x16x2048 [0, 3, 1, 2]
    (Host.dotGeneral dot_S2x2048x16x128_S2x2048x16x128_S2x16x2048x2048_3_3_1_1_02_02 none
      (shapeCast S2x2048x16x128 (proj x wk) shapeCasts_S2x2048x2048_S2x2048x16x128)
      (shapeCast S2x2048x16x128
        (mulf (proj x wq) (broadcastInDim S2x2048x2048 ![] bcast_S_S2x2048x2048 (constant S_ .f32 0x3DB504F3#32)))
        shapeCasts_S2x2048x2048_S2x2048x16x128))
    transposes_S2x16x2048x2048_S2x2048x16x2048_0_3_1_2

/-- The reference's scores at batch `b`, query `q`, head `h` and key `k`: the sum over the head's 128 columns of the key's
    projection times the query's projection, the latter scaled after its sum. -/
theorem scores_apply (x : FVec Ideal S2x2048x2048 .f32) (wq wk : FVec Ideal S2048x2048 .f32)
    (b : Fin 2) (q : Fin 2048) (h : Fin 16) (k : Fin 2048) :
    (scores x wq wk : S2x2048x16x2048.Idx → EReal) (ix4 b q h k)
      = ∑ d : Fin 128, (∑ i : Fin 2048, (x (ix3 b k i) : EReal) * wk (ix2 ⟨h.val * 128 + d.val, by omega⟩ i))
          * ((∑ i : Fin 2048, (x (ix3 b q i) : EReal) * wq (ix2 ⟨h.val * 128 + d.val, by omega⟩ i))
              * Ideal.ofBits .f32 0x3DB504F3#32) := by
  unfold scores proj
  pointwise

end Cert.ReferenceIdeal.Scores

end
-- ==== Proof.Results.lean ====
/-
  The kernel program's second result, and its equality with the reference's: the second call's masked product over a group
  of eight heads is the product over the one head's columns, and the scale the kernel puts into the query weights is the
  scale the reference puts on the query projection.
-/
module

public import proofs.«01_k».proof.Proof.Host
public import proofs.«01_k».proof.Proof.ScoresCall
public import proofs.«01_k».proof.Proof.Sums
public import proofs.«01_k».proof.Proof.Reference

@[expose] public section

set_option maxRecDepth 16384

noncomputable section

namespace Cert.KernelIdeal.Scores

open Idealize.ShloMosaic Idealize.ShloMosaic.TcCoe Idealize.ShloMosaic.Pipeline
open Idealize.SL.Sem
open Cert.KernelIdeal Cert.KernelIdeal.Gen Cert.Scores

variable (m : (ℓ : Loc nD τ sig) → Buf (Elt Ideal) ℓ) (ρ : Dev nD → PrngReg)

/-- The second result of the program at batch `b`, query `q`, head `h` and key `k`: the sum over the head's 128 columns of
    query times key. -/
theorem result_scores (c : Dev nD) (b : Fin 2) (q : Fin 2048) (h : Fin 16) (k : Fin 2048) :
    (W9 m ρ c (Proc.devRef .tc main_v18) : S2x2048x16x2048.Idx → EReal) (ix4 b q h k)
      = ∑ d : Fin 128, query m c b q ⟨h.val * 128 + d.val, by omega⟩ * key m c b k ⟨h.val * 128 + d.val, by omega⟩ := by
  rw [W9_of m ρ c main_v18 (by decide),
    show W8 m ρ c (Proc.devRef .tc main_v18) = _ from (W8_arr m ρ c 3).trans (final_s (V7 m ρ) c)]
  have hn (n : Fin 1024) : h.val / 8 * 1024 + n.val < 2048 := by omega
  refine Eq.trans (b := ∑ n : Fin 1024, query m c b q ⟨h.val / 8 * 1024 + n.val, hn n⟩
    * (if (⟨h.val % 8, by omega⟩ : Fin 8).val = n.val / 128 then (1 : EReal) else 0)
    * key m c b k ⟨h.val / 8 * 1024 + n.val, hn n⟩) ?_ ?_
  · unfold maskedProd
    refine Fin.sum_fin_congr fun n => ?_
    refine congrArg₂ (· * ·) (congrArg₂ (· * ·) (entry_query m ρ c b q ⟨_, hn n⟩) ?_) (entry_key m ρ c b k ⟨_, hn n⟩)
    refine (W7_v17 m ρ c ⟨(q.val * 8 + h.val % 8) % 16, by omega⟩ n).trans ?_
    dsimp only
    rw [show (q.val * 8 + h.val % 8) % 16 % 8 = h.val % 8 by omega]
  · rw [sum_mask ⟨h.val % 8, by omega⟩ (fun n => query m c b q ⟨h.val / 8 * 1024 + n.val, hn n⟩)
      (fun n => key m c b k ⟨h.val / 8 * 1024 + n.val, hn n⟩)]
    refine Finset.sum_congr rfl fun d _ => ?_
    have e (p : h.val / 8 * 1024 + (h.val % 8 * 128 + d.val) < 2048) (p' : h.val * 128 + d.val < 2048) :
        (⟨h.val / 8 * 1024 + (h.val % 8 * 128 + d.val), p⟩ : Fin 2048) = ⟨h.val * 128 + d.val, p'⟩ :=
      Fin.ext (by dsimp only; omega)
    dsimp only
    rw [e]

/-- The program's second result is the reference's scores of the same input and weights. -/
theorem scores_eq (c : Dev nD) :
    (W9 m ρ c (Proc.devRef .tc main_v18) : S2x2048x16x2048.Idx → EReal)
      = Cert.ReferenceIdeal.Scores.scores (xin m c) (wq m c) (wk m c) := by
  funext j
  idx_vars j
  refine (result_scores m ρ c _ _ _ _).trans ?_
  refine Eq.trans ?_ (Cert.ReferenceIdeal.Scores.scores_apply (xin m c) (wq m c) (wk m c) _ _ _ _).symm
  refine Fin.sum_fin_congr fun d => ?_
  unfold query key
  rw [sum_mul_scale _ _ _ scale_fin.1 scale_fin.2, mul_comm]
  refine congrArg (_ * ·) (Finset.sum_congr rfl fun i _ => (mul_assoc _ _ _).symm)

end Cert.KernelIdeal.Scores

end
-- ==== Proof.lean ====
/-
  The proof of every claim stated for this kernel: the three programs end with their arguments unchanged and every
  semaphore counter at zero; idealizing the kernel changed no operation; and over the extended reals the idealized
  kernel and the reference end with equal results, both of them, on every input.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Results
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel ends with its arguments unchanged and every semaphore counter at zero. -/
theorem frame_kernel : Cert.quiescent_Kernel := fun m ρ _ => Cert.Kernel.Gen.frame m ρ

/-- The idealized kernel ends with its arguments unchanged and every semaphore counter at zero. -/
theorem frame_ideal : Cert.quiescent_KernelIdeal := fun m ρ _ => Cert.KernelIdeal.Gen.frame m ρ

/-- The reference ends with its arguments unchanged; it has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The idealized kernel and the reference, run on the same arguments, end with the same two results: the zeros, and the
    scores. -/
theorem algebraic : Cert.algebraic_KernelIdeal_ReferenceIdeal := by
  intro m ρ m' ρ' _ hagree
  refine ⟨fun _ => fun _ => (0 : EReal), fun c => Cert.ReferenceIdeal.Scores.scores
    (Cert.KernelIdeal.Scores.xin m c) (Cert.KernelIdeal.Scores.wq m c) (Cert.KernelIdeal.Scores.wk m c), ?_, ?_⟩
  · exact (θ_run Cert.KernelIdeal.defs _ _).mono
      (fun _ h c => ⟨(h c).1.trans (Cert.KernelIdeal.Scores.result_zeros m ρ c),
        (h c).2.1.trans (Cert.KernelIdeal.Scores.scores_eq m ρ c), (h c).2.2⟩)
      (Cert.KernelIdeal.Scores.run (F := Ideal) m ρ)
  · refine (θ_run Cert.ReferenceIdeal.defs _ _).mono
      (fun _ h c => ⟨(h c).1.trans Cert.ReferenceIdeal.Scores.zeros_eq, (h c).2.1.trans ?_, (h c).2.2⟩)
      (Cert.ReferenceIdeal.Value.run (F := Ideal) m' ρ')
    rw [(hagree c).1, (hagree c).2.1, (hagree c).2.2.1]
    rfl

/-- Every claim holds. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
